-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1x1536 : Shape := ⟨3, ![2048, 1, 1536]⟩
abbrev S8960x768 : Shape := ⟨2, ![8960, 768]⟩
abbrev S8960x6 : Shape := ⟨2, ![8960, 6]⟩
abbrev S8960x48 : Shape := ⟨2, ![8960, 48]⟩
abbrev S2048x1536 : Shape := ⟨2, ![2048, 1536]⟩
abbrev S768x8960 : Shape := ⟨2, ![768, 8960]⟩
abbrev S6x8960 : Shape := ⟨2, ![6, 8960]⟩
abbrev S48x8960 : Shape := ⟨2, ![48, 8960]⟩
abbrev S2048x8960 : Shape := ⟨2, ![2048, 8960]⟩
abbrev S768x1280 : Shape := ⟨2, ![768, 1280]⟩
abbrev S6x1280 : Shape := ⟨2, ![6, 1280]⟩
abbrev S48x1280 : Shape := ⟨2, ![48, 1280]⟩
abbrev S2048x1280 : Shape := ⟨2, ![2048, 1280]⟩
abbrev S1536x1280 : Shape := ⟨2, ![1536, 1280]⟩
abbrev S32x1280 : Shape := ⟨2, ![32, 1280]⟩
abbrev S1x1280 : Shape := ⟨2, ![1, 1280]⟩
abbrev S2048x1x8960 : Shape := ⟨3, ![2048, 1, 8960]⟩

abbrev nBuf : Space → Nat
  | .hbm => 14
  | .vmem => 14
  | .smem => 0
  | _ => 0

abbrev bufTy : (tb : Table) → Fin (tcTables nBuf tb) → BufTy
  | .hbm, ⟨0, _⟩ => ⟨S2048x1x1536, .bf16⟩
  | .hbm, ⟨1, _⟩ => ⟨S8960x768, .i8⟩
  | .hbm, ⟨2, _⟩ => ⟨S8960x6, .f16⟩
  | .hbm, ⟨3, _⟩ => ⟨S8960x6, .f16⟩
  | .hbm, ⟨4, _⟩ => ⟨S8960x48, .i8⟩
  | .hbm, ⟨5, _⟩ => ⟨S8960x48, .i8⟩
  | .hbm, ⟨6, _⟩ => ⟨S2048x1536, .bf16⟩
  | .hbm, ⟨7, _⟩ => ⟨S768x8960, .i8⟩
  | .hbm, ⟨8, _⟩ => ⟨S6x8960, .f16⟩
  | .hbm, ⟨9, _⟩ => ⟨S6x8960, .f16⟩
  | .hbm, ⟨10, _⟩ => ⟨S48x8960, .i8⟩
  | .hbm, ⟨11, _⟩ => ⟨S48x8960, .i8⟩
  | .hbm, ⟨12, _⟩ => ⟨S2048x8960, .bf16⟩
  | .hbm, ⟨13, _⟩ => ⟨S2048x1x8960, .bf16⟩
  | .local _ .vmem, ⟨0, _⟩ => ⟨S2048x1536, .bf16⟩
  | .local _ .vmem, ⟨1, _⟩ => ⟨S768x1280, .i8⟩
  | .local _ .vmem, ⟨2, _⟩ => ⟨S768x1280, .i8⟩
  | .local _ .vmem, ⟨3, _⟩ => ⟨S6x1280, .f16⟩
  | .local _ .vmem, ⟨4, _⟩ => ⟨S6x1280, .f16⟩
  | .local _ .vmem, ⟨5, _⟩ => ⟨S6x1280, .f16⟩
  | .local _ .vmem, ⟨6, _⟩ => ⟨S6x1280, .f16⟩
  | .local _ .vmem, ⟨7, _⟩ => ⟨S48x1280, .i8⟩
  | .local _ .vmem, ⟨8, _⟩ => ⟨S48x1280, .i8⟩
  | .local _ .vmem, ⟨9, _⟩ => ⟨S48x1280, .i8⟩
  | .local _ .vmem, ⟨10, _⟩ => ⟨S48x1280, .i8⟩
  | .local _ .vmem, ⟨11, _⟩ => ⟨S2048x1280, .bf16⟩
  | .local _ .vmem, ⟨12, _⟩ => ⟨S2048x1280, .bf16⟩
  | .local _ .vmem, ⟨13, _⟩ => ⟨S1536x1280, .bf16⟩
  | _, _ => ⟨S2048x1x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S768x1280 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6x1280 .f16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6x1280 .f16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S48x1280 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S48x1280 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x1280 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S2048x1x1536 : Shape := ⟨3, ![2048, 1, 1536]⟩
abbrev S8960x768 : Shape := ⟨2, ![8960, 768]⟩
abbrev S8960x6 : Shape := ⟨2, ![8960, 6]⟩
abbrev S8960x48 : Shape := ⟨2, ![8960, 48]⟩
abbrev S8960x24x32 : Shape := ⟨3, ![8960, 24, 32]⟩
abbrev S_ : Shape := ⟨0, ![]⟩
abbrev S8960x6x4 : Shape := ⟨3, ![8960, 6, 4]⟩
abbrev S8960x24 : Shape := ⟨2, ![8960, 24]⟩
abbrev S8960x24x1 : Shape := ⟨3, ![8960, 24, 1]⟩
abbrev S2048x1x24x2x32 : Shape := ⟨5, ![2048, 1, 24, 2, 32]⟩
abbrev S2048x1x24x1x32 : Shape := ⟨5, ![2048, 1, 24, 1, 32]⟩
abbrev S2048x1x24x32 : Shape := ⟨4, ![2048, 1, 24, 32]⟩
abbrev S2048x1x8960 : Shape := ⟨3, ![2048, 1, 8960]⟩

abbrev nBuf : Space → Nat
  | .hbm => 61
  | .vmem => 4
  | .smem => 0
  | _ => 0

abbrev bufTy : (tb : Table) → Fin (tcTables nBuf tb) → BufTy
  | .hbm, ⟨0, _⟩ => ⟨S2048x1x1536, .bf16⟩
  | .hbm, ⟨1, _⟩ => ⟨S8960x768, .i8⟩
  | .hbm, ⟨2, _⟩ => ⟨S8960x6, .f16⟩
  | .hbm, ⟨3, _⟩ => ⟨S8960x6, .f16⟩
  | .hbm, ⟨4, _⟩ => ⟨S8960x48, .i8⟩
  | .hbm, ⟨5, _⟩ => ⟨S8960x48, .i8⟩
  | .hbm, ⟨6, _⟩ => ⟨S8960x6, .f32⟩
  | .hbm, ⟨7, _⟩ => ⟨S8960x6, .f32⟩
  | .hbm, ⟨8, _⟩ => ⟨S8960x24x32, .i8⟩
  | .hbm, ⟨9, _⟩ => ⟨S8960x24x32, .i32⟩
  | .hbm, ⟨10, _⟩ => ⟨S_, .i32⟩
  | .hbm, ⟨11, _⟩ => ⟨S8960x24x32, .i32⟩
  | .hbm, ⟨12, _⟩ => ⟨S8960x24x32, .i32⟩
  | .hbm, ⟨13, _⟩ => ⟨S8960x24x32, .f32⟩
  | .hbm, ⟨14, _⟩ => ⟨S_, .i32⟩
  | .hbm, ⟨15, _⟩ => ⟨S8960x24x32, .i32⟩
  | .hbm, ⟨16, _⟩ => ⟨S8960x24x32, .i32⟩
  | .hbm, ⟨17, _⟩ => ⟨S8960x24x32, .f32⟩
  | .hbm, ⟨18, _⟩ => ⟨S8960x6x4, .f32⟩
  | .hbm, ⟨19, _⟩ => ⟨S8960x24, .f32⟩
  | .hbm, ⟨20, _⟩ => ⟨S8960x6x4, .f32⟩
  | .hbm, ⟨21, _⟩ => ⟨S8960x24, .f32⟩
  | .hbm, ⟨22, _⟩ => ⟨S8960x24, .i8⟩
  | .hbm, ⟨23, _⟩ => ⟨S8960x24, .i8⟩
  | .hbm, ⟨24, _⟩ => ⟨S8960x24, .i32⟩
  | .hbm, ⟨25, _⟩ => ⟨S8960x24, .f32⟩
  | .hbm, ⟨26, _⟩ => ⟨S8960x24, .f32⟩
  | .hbm, ⟨27, _⟩ => ⟨S8960x24, .i32⟩
  | .hbm, ⟨28, _⟩ => ⟨S8960x24, .f32⟩
  | .hbm, ⟨29, _⟩ => ⟨S8960x24, .f32⟩
  | .hbm, ⟨30, _⟩ => ⟨S8960x24x1, .f32⟩
  | .hbm, ⟨31, _⟩ => ⟨S8960x24x32, .f32⟩
  | .hbm, ⟨32, _⟩ => ⟨S8960x24x32, .f32⟩
  | .hbm, ⟨33, _⟩ => ⟨S8960x24x1, .f32⟩
  | .hbm, ⟨34, _⟩ => ⟨S8960x24x32, .f32⟩
  | .hbm, ⟨35, _⟩ => ⟨S8960x24x32, .f32⟩
  | .hbm, ⟨36, _⟩ => ⟨S8960x24x32, .bf16⟩
  | .hbm, ⟨37, _⟩ => ⟨S8960x24, .i8⟩
  | .hbm, ⟨38, _⟩ => ⟨S8960x24, .i8⟩
  | .hbm, ⟨39, _⟩ => ⟨S8960x24, .i32⟩
  | .hbm, ⟨40, _⟩ => ⟨S8960x24, .f32⟩
  | .hbm, ⟨41, _⟩ => ⟨S8960x24, .f32⟩
  | .hbm, ⟨42, _⟩ => ⟨S8960x24, .i32⟩
  | .hbm, ⟨43, _⟩ => ⟨S8960x24, .f32⟩
  | .hbm, ⟨44, _⟩ => ⟨S8960x24, .f32⟩
  | .hbm, ⟨45, _⟩ => ⟨S8960x24x1, .f32⟩
  | .hbm, ⟨46, _⟩ => ⟨S8960x24x32, .f32⟩
  | .hbm, ⟨47, _⟩ => ⟨S8960x24x32, .f32⟩
  | .hbm, ⟨48, _⟩ => ⟨S8960x24x1, .f32⟩
  | .hbm, ⟨49, _⟩ => ⟨S8960x24x32, .f32⟩
  | .hbm, ⟨50, _⟩ => ⟨S8960x24x32, .f32⟩
  | .hbm, ⟨51, _⟩ => ⟨S8960x24x32, .bf16⟩
  | .hbm, ⟨52, _⟩ => ⟨S2048x1x24x2x32, .bf16⟩
  | .hbm, ⟨53, _⟩ => ⟨S2048x1x24x1x32, .bf16⟩
  | .hbm, ⟨54, _⟩ => ⟨S2048x1x24x32, .bf16⟩
  | .hbm, ⟨55, _⟩ => ⟨S2048x1x8960, .f32⟩
  | .hbm, ⟨56, _⟩ => ⟨S2048x1x24x1x32, .bf16⟩
  | .hbm, ⟨57, _⟩ => ⟨S2048x1x24x32, .bf16⟩
  | .hbm, ⟨58, _⟩ => ⟨S2048x1x8960, .f32⟩
  | .hbm, ⟨59, _⟩ => ⟨S2048x1x8960, .f32⟩
  | .hbm, ⟨60, _⟩ => ⟨S2048x1x8960, .bf16⟩
  | .local _ .vmem, ⟨0, _⟩ => ⟨S8960x6, .f16⟩
  | .local _ .vmem, ⟨1, _⟩ => ⟨S8960x6, .f16⟩
  | .local _ .vmem, ⟨2, _⟩ => ⟨S8960x6, .f32⟩
  | .local _ .vmem, ⟨3, _⟩ => ⟨S8960x6, .f32⟩
  | _, _ => ⟨S2048x1x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8960x6 .f16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8960x6 .f16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8960x6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8960x6 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Spec.lean ====
module

public import Idealize.ShloMosaic.Lib.Pointwise

@[expose] public section

noncomputable section

/-!
# What the kernel and the reference compute

A weight of the layer is stored as a four bit code; a byte holds two codes.  32 consecutive codes share a scale and an
offset, bytes both, and four pairs of such groups share two floats that multiply the scales and the offsets.  This module
writes that down for one output feature, and the product of the input rows with the weights, free of either program; it
then gives the product as the sum over the low codes plus the sum over the high codes.
-/

namespace Cert.Q4

open Idealize.ShloMosaic

/-- The number a byte holds, read unsigned. -/
def byte (b : BitVec 8) : EReal := ((b.toNat : ℝ) : EReal)

/-- The code in a byte's low four bits. -/
def lo (b : BitVec 8) : EReal := (((b.toNat % 16 : ℕ) : ℝ) : EReal)

/-- The code in a byte's high four bits. -/
def hi (b : BitVec 8) : EReal := (((b.toNat / 16 : ℕ) : ℝ) : EReal)

/-- The code of weight `k`: of every 64 weights the first 32 are the low codes of 32 bytes, the others the high codes of
the same 32 bytes. -/
def code (q : Fin 768 → BitVec 8) (k : Fin 1536) : EReal :=
  if k.val / 32 % 2 = 0 then lo (q ⟨32 * (k.val / 64) + k.val % 32, by omega⟩)
  else hi (q ⟨32 * (k.val / 64) + k.val % 32, by omega⟩)

/-- Weight `k` of an output feature with bytes `q`, floats `d` and `m`, scales `s` and offsets `o`:
`code * (d * scale) - m * offset`. -/
def weight (q : Fin 768 → BitVec 8) (d m : Fin 6 → EReal) (s o : Fin 48 → BitVec 8) (k : Fin 1536) : EReal :=
  code q k * (d ⟨k.val / 256, by omega⟩ * byte (s ⟨k.val / 32, by omega⟩))
    - m ⟨k.val / 256, by omega⟩ * byte (o ⟨k.val / 32, by omega⟩)

/-- The layer: row `i 0` of the input times the weights of output feature `i 2`, summed over the 1536 input features. -/
def out (x : (⟨3, ![2048, 1, 1536]⟩ : Shape).Idx → EReal) (q : (⟨2, ![8960, 768]⟩ : Shape).Idx → BitVec 8)
    (d m : (⟨2, ![8960, 6]⟩ : Shape).Idx → EReal) (s o : (⟨2, ![8960, 48]⟩ : Shape).Idx → BitVec 8)
    (b : Fin 2048) (n : Fin 8960) : EReal :=
  ∑ k : Fin 1536, x (ix3 b 0 k) * weight (fun a => q (ix2 n a)) (fun a => d (ix2 n a)) (fun a => m (ix2 n a))
    (fun a => s (ix2 n a)) (fun a => o (ix2 n a)) k

/-! ## A weight by its place in its group -/

/-- The weight at place `j` of the low half of group pair `g`. -/
theorem weight_lo (q : Fin 768 → BitVec 8) (d m : Fin 6 → EReal) (s o : Fin 48 → BitVec 8) (k : Fin 1536) (g j : ℕ)
    (a : Fin 768) (b : Fin 6) (e : Fin 48) (hj : j < 32) (hk : k.val = 64 * g + j) (ha : a.val = 32 * g + j)
    (hb : b.val = g / 4) (he : e.val = 2 * g) :
    weight q d m s o k = lo (q a) * (d b * byte (s e)) - m b * byte (o e) := by
  have h0 : k.val / 32 % 2 = 0 := by omega
  have h1 : (⟨32 * (k.val / 64) + k.val % 32, by omega⟩ : Fin 768) = a := Fin.ext (by simp only; omega)
  have h2 : (⟨k.val / 256, by omega⟩ : Fin 6) = b := Fin.ext (by simp only; omega)
  have h3 : (⟨k.val / 32, by omega⟩ : Fin 48) = e := Fin.ext (by simp only; omega)
  unfold weight code
  rw [if_pos h0, h1, h2, h3]

/-- The weight at place `j` of the high half of group pair `g`. -/
theorem weight_hi (q : Fin 768 → BitVec 8) (d m : Fin 6 → EReal) (s o : Fin 48 → BitVec 8) (k : Fin 1536) (g j : ℕ)
    (a : Fin 768) (b : Fin 6) (e : Fin 48) (hj : j < 32) (hk : k.val = 64 * g + 32 + j) (ha : a.val = 32 * g + j)
    (hb : b.val = g / 4) (he : e.val = 2 * g + 1) :
    weight q d m s o k = hi (q a) * (d b * byte (s e)) - m b * byte (o e) := by
  have h0 : ¬ k.val / 32 % 2 = 0 := by omega
  have h1 : (⟨32 * (k.val / 64) + k.val % 32, by omega⟩ : Fin 768) = a := Fin.ext (by simp only; omega)
  have h2 : (⟨k.val / 256, by omega⟩ : Fin 6) = b := Fin.ext (by simp only; omega)
  have h3 : (⟨k.val / 32, by omega⟩ : Fin 48) = e := Fin.ext (by simp only; omega)
  unfold weight code
  rw [if_neg h0, h1, h2, h3]

/-! ## The sum over the input features, by halves of group pairs -/

/-- A sum over 1536 places is the sum over the low halves of the 24 group pairs plus the sum over their high halves. -/
theorem sum_halves (f : Fin 1536 → EReal) :
    ∑ k, f k = (∑ g : Fin 24, ∑ j : Fin 32, f ⟨64 * g.val + j.val, by omega⟩)
      + ∑ g : Fin 24, ∑ j : Fin 32, f ⟨64 * g.val + 32 + j.val, by omega⟩ := by
  have h1 : ∑ k, f k = ∑ g : Fin 24, ∑ l : Fin 64, f ⟨64 * g.val + l.val, by omega⟩ := by
    rw [← Equiv.sum_comp (finProdFinEquiv (m := 24) (n := 64)) f, Fintype.sum_prod_type]
    refine Finset.sum_congr rfl fun g _ => Finset.sum_congr rfl fun l _ => congrArg f (Fin.ext ?_)
    show l.val + 64 * g.val = 64 * g.val + l.val
    omega
  rw [h1, ← Finset.sum_add_distrib]
  refine Finset.sum_congr rfl fun g _ => ?_
  rw [show (∑ l : Fin 64, f ⟨64 * g.val + l.val, by omega⟩)
    = ∑ l : Fin (32 + 32), f ⟨64 * g.val + l.val, by omega⟩ from rfl, Fin.sum_univ_add]
  refine congrArg₂ (· + ·) (Finset.sum_congr rfl fun j _ => rfl) (Finset.sum_congr rfl fun j _ => congrArg f (Fin.ext ?_))
  show 64 * g.val + (32 + j.val) = 64 * g.val + 32 + j.val
  omega

/-! ## The programs' integer operations -/

/-- Masking a widened byte with 15 and reading it as a signed word gives the low code. -/
theorem lo_eq (b : BitVec 8) : (((IntOp.andi (b.setWidth 32) 15#32).toInt : ℝ) : EReal) = lo b := by
  have h : ∀ b : BitVec 8, (IntOp.andi (b.setWidth 32) 15#32).toInt = ((b.toNat % 16 : ℕ) : ℤ) := by decide +kernel
  unfold lo
  rw [h b, Int.cast_natCast]

/-- Shifting a widened byte right by 4, on either unit, and reading it as a signed word gives the high code. -/
theorem hi_eq (u : ArithUnit) (b : BitVec 8) : (((IntOp.shrsi u (b.setWidth 32) 4#32).toInt : ℝ) : EReal) = hi b := by
  have h : ∀ b : BitVec 8, ((b.setWidth 32).sshiftRight' 4#32).toInt = ((b.toNat / 16 : ℕ) : ℤ) := by decide +kernel
  have hs : IntOp.shrsi u (b.setWidth 32) 4#32 = (b.setWidth 32).sshiftRight' 4#32 := if_pos (by decide)
  unfold hi
  rw [hs, h b, Int.cast_natCast]

/-- A widened byte read as a signed word is the byte's number. -/
theorem byte_eq (b : BitVec 8) : (((b.setWidth 32).toInt : ℝ) : EReal) = byte b := by
  have h : ∀ b : BitVec 8, (b.setWidth 32).toInt = ((b.toNat : ℕ) : ℤ) := by decide +kernel
  unfold byte
  rw [h b, Int.cast_natCast]

end Cert.Q4
-- ==== Proof.Block.lean ====
module

public import proofs.«01_k».proof.Proof.Gen.KernelIdeal.Frame
public import proofs.«01_k».proof.Proof.Spec
public import Idealize.ShloMosaic.Lib.Pipeline.Value

@[expose] public section

set_option maxRecDepth 16384

noncomputable section

/-!
# What one block of the kernel computes

The body at a grid point dequantizes the 1280 columns of its block into a scratch array, 32 rows at a time, and multiplies
the input by that array.  Here: the scratch array's entry `(k, n)` is weight `k` of column `n`, and the output block is the
input rows times these weights.
-/

namespace Cert.KernelIdeal.Block

open Idealize.ShloMosaic Idealize.ShloMosaic.TcCoe Idealize.SL.Sem
open Cert.KernelIdeal Cert.KernelIdeal.Gen

/-- The offset of a whole-array load or store is zero on both axes. -/
theorem hz : (![0, 0] : Fin 2 → Nat) = fun _ => 0 := by decide

/-- The weights of a block: entry `(k, n)` is weight `k` of the block's column `n`. -/
def wts (x1 : Vec Ideal S768x1280 .i8) (x2 x3 : Vec Ideal S6x1280 .f16) (x4 x5 : Vec Ideal S48x1280 .i8) :
    S1536x1280.Idx → EReal :=
  fun z => Cert.Q4.weight (fun a => x1 (ix2 a (z 1))) (fun a => x2 (ix2 a (z 1))) (fun a => x3 (ix2 a (z 1)))
    (fun a => x4 (ix2 a (z 1))) (fun a => x5 (ix2 a (z 1))) (z 0)

/-- The body's low code: the widened byte masked with 15, converted. -/
theorem sitofp_lo (b : BitVec 8) :
    FloatOps.sitofp (F := Ideal) FTy.f32 (IntOp.andi (BitVec.setWidth 32 b) 15#32) = Cert.Q4.lo b :=
  Cert.Q4.lo_eq b

/-- The body's high code: the widened byte shifted right by 4, converted. -/
theorem sitofp_hi (b : BitVec 8) :
    FloatOps.sitofp (F := Ideal) FTy.f32 (IntOp.shrsi .vector (BitVec.setWidth 32 b) 4#32) = Cert.Q4.hi b :=
  Cert.Q4.hi_eq .vector b

section Tiles

variable (x1 : Vec Ideal S768x1280 .i8) (x2 x3 : Vec Ideal S6x1280 .f16) (x4 x5 : Vec Ideal S48x1280 .i8)

/-- Rows `off …` of the scratch array when they hold low codes: what the body computes for place `x` of the tile, from byte
row `a`, float row `b` and scale row `e`, is the weight there. -/
theorem lo_tile (x : S32x1280.Idx) (off : ℕ) (inb : ∀ a, (![off, 0] : Fin 2 → ℕ) a + S32x1280.size a ≤ S1536x1280.size a)
    (a : Fin 768) (b : Fin 6) (e : Fin 48) (ha : a.val = 32 * (e.val / 2) + (x 0).val) (hoff : off = 32 * e.val)
    (hb : b.val = e.val / 8) (he : e.val % 2 = 0) :
    Cert.Q4.lo (x1 (ix2 a (x 1)))
          * (x2 (ix2 b (x 1)) * FloatOps.uitofp (F := Ideal) FTy.f32 (x4 (ix2 e (x 1))))
        - x3 (ix2 b (x 1)) * FloatOps.uitofp (F := Ideal) FTy.f32 (x5 (ix2 e (x 1)))
      = wts x1 x2 x3 x4 x5 ((Rect.unit (s := S1536x1280) ![off, 0] S32x1280.size inb).emb x) := by
  have hx : (x 0).val < 32 := (x 0).isLt
  have h0 : (((Rect.unit (s := S1536x1280) ![off, 0] S32x1280.size inb).emb x) 0).val = off + 1 * (x 0).val := rfl
  have h1 : ((Rect.unit (s := S1536x1280) ![off, 0] S32x1280.size inb).emb x) 1 = x 1 := Fin.ext (by
    show 0 + 1 * (x 1).val = (x 1).val
    omega)
  unfold wts
  rw [h1]
  refine Eq.trans ?_ (Cert.Q4.weight_lo _ _ _ _ _ _ (e.val / 2) (x 0).val a b e hx ?_ ?_ ?_ ?_).symm
  · rfl
  all_goals omega

/-- The same for a tile of high codes. -/
theorem hi_tile (x : S32x1280.Idx) (off : ℕ) (inb : ∀ a, (![off, 0] : Fin 2 → ℕ) a + S32x1280.size a ≤ S1536x1280.size a)
    (a : Fin 768) (b : Fin 6) (e : Fin 48) (ha : a.val = 32 * (e.val / 2) + (x 0).val) (hoff : off = 32 * e.val)
    (hb : b.val = e.val / 8) (he : e.val % 2 = 1) :
    Cert.Q4.hi (x1 (ix2 a (x 1)))
          * (x2 (ix2 b (x 1)) * FloatOps.uitofp (F := Ideal) FTy.f32 (x4 (ix2 e (x 1))))
        - x3 (ix2 b (x 1)) * FloatOps.uitofp (F := Ideal) FTy.f32 (x5 (ix2 e (x 1)))
      = wts x1 x2 x3 x4 x5 ((Rect.unit (s := S1536x1280) ![off, 0] S32x1280.size inb).emb x) := by
  have hx : (x 0).val < 32 := (x 0).isLt
  have h0 : (((Rect.unit (s := S1536x1280) ![off, 0] S32x1280.size inb).emb x) 0).val = off + 1 * (x 0).val := rfl
  have h1 : ((Rect.unit (s := S1536x1280) ![off, 0] S32x1280.size inb).emb x) 1 = x 1 := Fin.ext (by
    show 0 + 1 * (x 1).val = (x 1).val
    omega)
  unfold wts
  rw [h1]
  refine Eq.trans ?_ (Cert.Q4.weight_hi _ _ _ _ _ _ (e.val / 2) (x 0).val a b e hx ?_ ?_ ?_ ?_).symm
  · rfl
  all_goals omega

/-- Loading the whole scratch array after stores that leave the weights gives the weights. -/
theorem readCov_wts (v : View sig .tc .vmem S1536x1280 .bf16) (L : List (View.Piece (Elt Ideal) S1536x1280 .bf16))
    (inb) (hL : ∀ z, View.canon L z = wts x1 x2 x3 x4 x5 z) :
    v.readCov L (Rect.unit ![0, 0] S1536x1280.size inb).toLoadRect = wts x1 x2 x3 x4 x5 := by
  rw [View.readCov_eq_canon']
  show View.ld (View.canon L) (Rect.unit ![0, 0] S1536x1280.size inb) = _
  rw [View.ld_unit_zero (S := S1536x1280) hz]
  exact funext hL

/-- The body's last step at an index: row `b` of the input times column `n` of the array it is given. -/
theorem pay_apply (x0 : Vec Ideal S2048x1536 .bf16) (w : Vec Ideal S1536x1280 .bf16) (b : Fin 2048) (n : Fin 1280) :
    k0_pay2 (F := Ideal) x0 w (ix2 b n) = ∑ k : Fin 1536, x0 (ix2 b k) * w (ix2 k n) := by
  pointwise [k0_pay2]

end Tiles

variable (c : Dev nD) (i : grid0.Coords) (arg1 : Memref sig .tc .vmem S2048x1536 .bf16) (harg1 : arg1.IsWhole)
  (arg2 : Memref sig .tc .vmem S768x1280 .i8) (harg2 : arg2.IsWhole)
  (arg3 : Memref sig .tc .vmem S6x1280 .f16) (harg3 : arg3.IsWhole)
  (arg4 : Memref sig .tc .vmem S6x1280 .f16) (harg4 : arg4.IsWhole)
  (arg5 : Memref sig .tc .vmem S48x1280 .i8) (harg5 : arg5.IsWhole)
  (arg6 : Memref sig .tc .vmem S48x1280 .i8) (harg6 : arg6.IsWhole)
  (arg7 : Memref sig .tc .vmem S2048x1280 .bf16) (harg7 : arg7.IsWhole)
  (arg8 : Memref sig .tc .vmem S1536x1280 .bf16) (harg8 : arg8.IsWhole)
    (x0 : Vec Ideal S2048x1536 .bf16) (x1 : Vec Ideal S768x1280 .i8) (x2 : Vec Ideal S6x1280 .f16) (x3 : Vec Ideal S6x1280 .f16) (x4 : Vec Ideal S48x1280 .i8) (x5 : Vec Ideal S48x1280 .i8)

set_option maxHeartbeats 1000000 in
/-- After the 48 tiles are stored, the scratch array holds the weights of the block. -/
theorem scratch_A (z : S1536x1280.Idx) :
    View.canon (kernelRun0_A (F := Ideal) c i arg1 harg1 arg2 harg2 arg3 harg3 arg4 harg4 arg5 harg5 arg6 harg6 arg7 harg7 arg8 harg8 x0 x1 x2 x3 x4 x5).2.1 z = wts x1 x2 x3 x4 x5 z := by
  unfold kernelRun0_A
  dsimp only
  sl_unfold_words
  refine View.canon_apply_of_pieces _ _ ?_ _ ?_
  · simp only [View.readAt_eq_ld, harg1.read_unread, harg2.read_unread, harg3.read_unread, harg4.read_unread, harg5.read_unread, harg6.read_unread]
    simp only [List.forall_mem_cons]
    repeat' refine And.intro ?_ ?_
    all_goals try exact fun _ h => absurd h List.not_mem_nil
    all_goals
      intro (x : S32x1280.Idx)
      unfold_payloads
      pointwise
      first
        | rw [sitofp_lo]; refine lo_tile x1 x2 x3 x4 x5 x _ _ _ _ _ ?_ ?_ ?_ ?_
        | rw [sitofp_hi]; refine hi_tile x1 x2 x3 x4 x5 x _ _ _ _ _ ?_ ?_ ?_ ?_
      all_goals simp
  · exact View.cover_of_tiledL (s := S1536x1280) _ S32x1280.size (by sl_kernel_rfl) z

/-- The output block: row `y 0` of the input times column `y 1` of the block's weights. -/
theorem out_A (y : S2048x1280.Idx) :
    out0_A_6 (F := Ideal) c i arg1 harg1 arg2 harg2 arg3 harg3 arg4 harg4 arg5 harg5 arg6 harg6 arg7 harg7 arg8 harg8 x0 x1 x2 x3 x4 x5 y
      = ∑ k : Fin 1536, x0 (ix2 (y 0) k) * wts x1 x2 x3 x4 x5 (ix2 k (y 1)) := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4 x5)]
  have hs := scratch_A c i arg1 harg1 arg2 harg2 arg3 harg3 arg4 harg4 arg5 harg5 arg6 harg6 arg7 harg7 arg8 harg8 x0 x1 x2 x3 x4 x5
  unfold kernelRun0_A at hs ⊢
  dsimp only at hs ⊢
  rw [View.canon_cons_unit_zero (S := S2048x1280) hz]
  rw [View.readAt_eq_ld, harg1.read_unread, View.ld_unit_zero (S := S2048x1536) hz]
  unfold kernelRun0_A.sl.v1130
  rw [readCov_wts x1 x2 x3 x4 x5 _ _ _ hs]
  idx_vars y
  exact pay_apply _ _ _ _

end Cert.KernelIdeal.Block
-- ==== Proof.Array.lean ====
module

public import proofs.«01_k».proof.Proof.Block
public import Idealize.ShloMosaic.Lib.Pipeline.ValueKit
public import Idealize.ShloMosaic.Lib.StableHlo.ReadAt
public import Idealize.ShloMosaic.Lib.Claim

@[expose] public section

set_option maxRecDepth 16384

noncomputable section

/-!
# What the kernel's result holds after the run

The seven output blocks tile the result's columns, and block `t` is computed from the columns from `1280 * t` on of the
transposed weight arrays.  So the array that the grid writes is `Cert.Q4.out` of the arguments, and the program's result is
that array under a unit axis.
-/

namespace Cert.KernelIdeal.Array

open Idealize.ShloMosaic Idealize.ShloMosaic.TcCoe Idealize.SL.Sem
open Cert.KernelIdeal Cert.KernelIdeal.Gen

/-- The input's block is at the origin at every point; the other blocks are block `t` of the columns. -/
theorem idx (t : Fin cfg0.N) : win0_0.index t = ![0, 0] ∧ win0_1.index t = ![0, t.val] ∧ win0_2.index t = ![0, t.val]
    ∧ win0_3.index t = ![0, t.val] ∧ win0_4.index t = ![0, t.val] ∧ win0_5.index t = ![0, t.val]
    ∧ win0_6.index t = ![0, t.val] :=
  (by decide +kernel : ∀ t : Fin grid0.N, win0_0.index t = ![0, 0] ∧ win0_1.index t = ![0, t.val]
    ∧ win0_2.index t = ![0, t.val] ∧ win0_3.index t = ![0, t.val] ∧ win0_4.index t = ![0, t.val]
    ∧ win0_5.index t = ![0, t.val] ∧ win0_6.index t = ![0, t.val]) t

variable (m : (ℓ : Loc nD τ sig) → Buf (Elt Ideal) ℓ) (c : Dev nD)

/-- The column of a weight array at which column `n` of block `t` stands. -/
def col (t : Fin cfg0.N) (n : Fin 1280) : Fin 8960 :=
  ⟨t.val * 1280 + n.val, by
    have h : t.val < 7 := t.isLt
    omega⟩

/-- What the region finds in its first array: the input without its unit axis. -/
theorem V_x (a : Fin 2048) (k : Fin 1536) :
    (V m c main_v0 : S2048x1536.Idx → EReal) (ix2 a k)
      = (m (c.tc.loc main_arg0) : S2048x1x1536.Idx → EReal) (ix3 a 0 k) := by
  unfold V V0
  after_reads_at

/-- What the region finds in its second array: the codes transposed. -/
theorem V_q (a : Fin 768) (n : Fin 8960) :
    (V m c main_v1 : S768x8960.Idx → BitVec 8) (ix2 a n)
      = (m (c.tc.loc main_arg1) : S8960x768.Idx → BitVec 8) (ix2 n a) := by
  unfold V V0
  after_reads_at

/-- What the region finds in its third array: the scales' factors transposed. -/
theorem V_d (a : Fin 6) (n : Fin 8960) :
    (V m c main_v2 : S6x8960.Idx → EReal) (ix2 a n)
      = (m (c.tc.loc main_arg2) : S8960x6.Idx → EReal) (ix2 n a) := by
  unfold V V0
  after_reads_at

/-- What the region finds in its fourth array: the offsets' factors transposed. -/
theorem V_f (a : Fin 6) (n : Fin 8960) :
    (V m c main_v3 : S6x8960.Idx → EReal) (ix2 a n)
      = (m (c.tc.loc main_arg3) : S8960x6.Idx → EReal) (ix2 n a) := by
  unfold V V0
  after_reads_at

/-- What the region finds in its fifth array: the scales transposed. -/
theorem V_s (a : Fin 48) (n : Fin 8960) :
    (V m c main_v4 : S48x8960.Idx → BitVec 8) (ix2 a n)
      = (m (c.tc.loc main_arg4) : S8960x48.Idx → BitVec 8) (ix2 n a) := by
  unfold V V0
  after_reads_at

/-- What the region finds in its sixth array: the offsets transposed. -/
theorem V_o (a : Fin 48) (n : Fin 8960) :
    (V m c main_v5 : S48x8960.Idx → BitVec 8) (ix2 a n)
      = (m (c.tc.loc main_arg5) : S8960x48.Idx → BitVec 8) (ix2 n a) := by
  unfold V V0
  after_reads_at

/-- The input's block is the whole input, without its unit axis. -/
theorem x_at (t : Fin cfg0.N) (a : Fin 2048) (k : Fin 1536) :
    (iblk m c 0 t : S2048x1536.Idx → EReal) (ix2 a k)
      = (m (c.tc.loc main_arg0) : S2048x1x1536.Idx → EReal) (ix3 a 0 k) := by
  rw [← V_x m c a k]
  blk_ext [iblk, idx t]

/-- Block `t` of the codes: columns `1280 * t` on of the transposed array. -/
theorem q_at (t : Fin cfg0.N) (a : Fin 768) (n : Fin 1280) :
    (iblk m c 1 t : S768x1280.Idx → BitVec 8) (ix2 a n)
      = (m (c.tc.loc main_arg1) : S8960x768.Idx → BitVec 8) (ix2 (col t n) a) := by
  rw [← V_q m c a (col t n)]
  unfold col
  blk_ext [iblk, idx t]

/-- Block `t` of the scales' factors: columns `1280 * t` on of the transposed array. -/
theorem d_at (t : Fin cfg0.N) (a : Fin 6) (n : Fin 1280) :
    (iblk m c 2 t : S6x1280.Idx → EReal) (ix2 a n)
      = (m (c.tc.loc main_arg2) : S8960x6.Idx → EReal) (ix2 (col t n) a) := by
  rw [← V_d m c a (col t n)]
  unfold col
  blk_ext [iblk, idx t]

/-- Block `t` of the offsets' factors: columns `1280 * t` on of the transposed array. -/
theorem f_at (t : Fin cfg0.N) (a : Fin 6) (n : Fin 1280) :
    (iblk m c 3 t : S6x1280.Idx → EReal) (ix2 a n)
      = (m (c.tc.loc main_arg3) : S8960x6.Idx → EReal) (ix2 (col t n) a) := by
  rw [← V_f m c a (col t n)]
  unfold col
  blk_ext [iblk, idx t]

/-- Block `t` of the scales: columns `1280 * t` on of the transposed array. -/
theorem s_at (t : Fin cfg0.N) (a : Fin 48) (n : Fin 1280) :
    (iblk m c 4 t : S48x1280.Idx → BitVec 8) (ix2 a n)
      = (m (c.tc.loc main_arg4) : S8960x48.Idx → BitVec 8) (ix2 (col t n) a) := by
  rw [← V_s m c a (col t n)]
  unfold col
  blk_ext [iblk, idx t]

/-- Block `t` of the offsets: columns `1280 * t` on of the transposed array. -/
theorem o_at (t : Fin cfg0.N) (a : Fin 48) (n : Fin 1280) :
    (iblk m c 5 t : S48x1280.Idx → BitVec 8) (ix2 a n)
      = (m (c.tc.loc main_arg5) : S8960x48.Idx → BitVec 8) (ix2 (col t n) a) := by
  rw [← V_o m c a (col t n)]
  unfold col
  blk_ext [iblk, idx t]

/-- The layer of the arguments that core `c` was given, at row `b` and output feature `n`. -/
def y (b : Fin 2048) (n : Fin 8960) : EReal :=
  Cert.Q4.out (m (c.tc.loc main_arg0)) (m (c.tc.loc main_arg1)) (m (c.tc.loc main_arg2)) (m (c.tc.loc main_arg3))
    (m (c.tc.loc main_arg4)) (m (c.tc.loc main_arg5)) b n

/-- The array that the grid writes: the layer of the arguments. -/
def result : S2048x8960.Idx → EReal := fun i => y m c (i 0) (i 1)

/-- What the body leaves at point `t`: the layer at the columns of block `t`. -/
theorem outsAt_apply (t : Fin cfg0.N) (b : Fin 2048) (n : Fin 1280) :
    (outsAt0 m c t : S2048x1280.Idx → EReal) (ix2 b n) = y m c b (col t n) := by
  unfold outsAt0
  rw [Block.out_A]
  unfold y Cert.Q4.out
  refine Finset.sum_congr (M := EReal) rfl fun k _ => ?_
  refine congrArg₂ (· * ·) (x_at m c t b k) ?_
  show Cert.Q4.weight _ _ _ _ _ k = Cert.Q4.weight _ _ _ _ _ k
  have hq := funext fun a => q_at m c t a n
  have hd := funext fun a => d_at m c t a n
  have hf := funext fun a => f_at m c t a n
  have hs := funext fun a => s_at m c t a n
  have ho := funext fun a => o_at m c t a n
  exact congrFun (congr (congr (congr (congrArg₂ Cert.Q4.weight hq hd) hf) hs) ho) k

/-- After the run the output array holds the layer of the arguments. -/
theorem arr : (dats m 0 c).arrAt 6 cfg0.N = result m c := by
  refine (dats m 0 c).arrAt_eq_of_covers 6 _ (by decide +kernel) fun t hf z => ?_
  blk_simp
  rw [after0_6]
  refine (congrArg (outsAt0 m c t) (eq_ix2 (n0 := 2048) (n1 := 1280) z)).trans
    ((outsAt_apply m c t (z 0) (z 1)).trans ?_)
  unfold result
  refine congrArg₂ (y m c) (Fin.ext ?_) (Fin.ext ?_)
  · blk_simp [idx t]
  · unfold col
    blk_simp [idx t]

/-- The program's result, at row `b` and output feature `n`. -/
theorem tail_apply (b : Fin 2048) (n : Fin 8960) :
    (Pipeline.afterTail₀ cfgs (dats m) 0 (V0 m) [hostOps1] c main_v7 : S2048x1x8960.Idx → EReal) (ix3 b 0 n)
      = y m c b n := by
  unfold Pipeline.afterTail₀
  after_reads_at
  have h : Pipeline.withArrays (cfgs 0).spec c (V0 m c) (fun w => (dats m 0 c).arrAt w (cfgs 0).N)
      (Proc.tc.devRef main_v6) = (dats m 0 c).arrAt 6 cfg0.N :=
    Pipeline.withArrays_arr spec0 (by decide) c (V0 m c) (fun w => (dats m 0 c).arrAt w cfg0.N) 6
  exact (congrFun (h.trans (arr m c)) (ix2 b n)).trans rfl

/-- The kernel's result: the layer of the arguments under a unit axis. -/
def out : S2048x1x8960.Idx → EReal := fun i => y m c (i 0) (i 2)

/-- Every run of the kernel ends with the layer in the result array, and with the arguments as they were. -/
theorem run (ρ : Dev nD → PrngReg) : θ_run defs (onTc (τ := τ) (main (F := Ideal))) ⟨m, fun _ => 0, ρ⟩ (fun r =>
    ∀ c : Dev nD, r.2.mem (c.tc.loc main_v7) = out m c
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) ∧ r.2.mem (c.tc.loc main_arg5) = m (c.tc.loc main_arg5)) := by
  refine (θ_run defs _ _).mono (fun r h c => ⟨?_, h.2 c⟩) (θ_run_and (run_main m ρ) (unchanged m ρ))
  have e : r.2.mem (c.tc.loc main_v7) = Pipeline.afterTail₀ cfgs (dats m) 0 (V0 m) [hostOps1] c main_v7 :=
    (h.1 c).2 main_v7 (Pipeline.mem_restRefs_of main_v7 (by decide) (by decide))
  rw [e]
  funext i
  obtain ⟨b, u, n, rfl⟩ : ∃ (b : Fin 2048) (u : Fin 1) (n : Fin 8960), i = ix3 b u n := ⟨_, _, _, eq_ix3 i⟩
  obtain rfl : u = 0 := Subsingleton.elim _ _
  exact tail_apply m c b n

end Cert.KernelIdeal.Array
-- ==== Proof.Reference.lean ====
module

public import proofs.«01_k».proof.Proof.Gen.ReferenceIdeal.Frame
public import proofs.«01_k».proof.Proof.Spec
public import Idealize.ShloMosaic.Lib.Pipeline.ValueKit
public import Idealize.ShloMosaic.Lib.StableHlo.ReadAt
public import Idealize.ShloMosaic.Lib.Claim

@[expose] public section

set_option maxRecDepth 16384

noncomputable section

/-!
# What the reference's result holds after the run

The reference widens the two float arrays, multiplies the codes out to weights, the low codes and the high codes apart, and
adds the two products of the input with them.  So its result at row `b` and output feature `n` is the sum over the low
codes plus the sum over the high codes, which is `Cert.Q4.out` of the arguments.
-/

namespace Cert.ReferenceIdeal.Value

open Idealize.ShloMosaic Idealize.ShloMosaic.TcCoe Idealize.SL.Sem
open Cert.ReferenceIdeal Cert.ReferenceIdeal.Gen

/-- One term of the reference's sum over the low codes, by its place in its group pair: an input times a weight. -/
theorem term_lo (x : Fin 1536 → EReal) (q : Fin 768 → BitVec 8) (d f : Fin 6 → EReal) (s o : Fin 48 → BitVec 8)
    (g : Fin 24) (j : Fin 32) :
    x ⟨g.val * 64 + j.val, by omega⟩
      * ((((IntOp.andi ((q ⟨g.val * 32 + j.val, by omega⟩).setWidth 32) 15#32).toInt : ℝ) : EReal)
          * (d ⟨g.val / 4, by omega⟩ * ((((s ⟨2 * g.val, by omega⟩).setWidth 32).toInt : ℝ) : EReal))
        - f ⟨g.val / 4, by omega⟩ * ((((o ⟨2 * g.val, by omega⟩).setWidth 32).toInt : ℝ) : EReal))
      = x ⟨64 * g.val + j.val, by omega⟩ * Cert.Q4.weight q d f s o ⟨64 * g.val + j.val, by omega⟩ := by
  rw [Cert.Q4.weight_lo q d f s o ⟨64 * g.val + j.val, by omega⟩ g.val j.val ⟨g.val * 32 + j.val, by omega⟩
      ⟨g.val / 4, by omega⟩ ⟨2 * g.val, by omega⟩ j.isLt rfl (by simp only; omega) rfl rfl,
    Cert.Q4.lo_eq, Cert.Q4.byte_eq, Cert.Q4.byte_eq]
  exact congrArg (fun k => x k * _) (Fin.ext (by simp only; omega))

/-- One term of the reference's sum over the high codes, by its place in its group pair: an input times a weight. -/
theorem term_hi (x : Fin 1536 → EReal) (q : Fin 768 → BitVec 8) (d f : Fin 6 → EReal) (s o : Fin 48 → BitVec 8)
    (g : Fin 24) (j : Fin 32) :
    x ⟨g.val * 64 + 32 + j.val, by omega⟩
      * ((((IntOp.shrsi .host ((q ⟨g.val * 32 + j.val, by omega⟩).setWidth 32) 4#32).toInt : ℝ) : EReal)
          * (d ⟨g.val / 4, by omega⟩ * ((((s ⟨1 + 2 * g.val, by omega⟩).setWidth 32).toInt : ℝ) : EReal))
        - f ⟨g.val / 4, by omega⟩ * ((((o ⟨1 + 2 * g.val, by omega⟩).setWidth 32).toInt : ℝ) : EReal))
      = x ⟨64 * g.val + 32 + j.val, by omega⟩ * Cert.Q4.weight q d f s o ⟨64 * g.val + 32 + j.val, by omega⟩ := by
  rw [Cert.Q4.weight_hi q d f s o ⟨64 * g.val + 32 + j.val, by omega⟩ g.val j.val ⟨g.val * 32 + j.val, by omega⟩
      ⟨g.val / 4, by omega⟩ ⟨1 + 2 * g.val, by omega⟩ j.isLt rfl (by simp only; omega) rfl (by simp only; omega),
    Cert.Q4.hi_eq, Cert.Q4.byte_eq, Cert.Q4.byte_eq]
  exact congrArg (fun k => x k * _) (Fin.ext (by simp only; omega))

variable (m : (ℓ : Loc nD τ sig) → Buf (Elt Ideal) ℓ) (c : Dev nD)

/-- Every block of the region is its whole array. -/
theorem idx (t : Fin cfg0.N) : win0_0.index t = ![0, 0] ∧ win0_1.index t = ![0, 0] ∧ win0_2.index t = ![0, 0]
    ∧ win0_3.index t = ![0, 0] :=
  (by decide +kernel : ∀ t : Fin grid0.N, win0_0.index t = ![0, 0] ∧ win0_1.index t = ![0, 0]
    ∧ win0_2.index t = ![0, 0] ∧ win0_3.index t = ![0, 0]) t

/-- The widened scales' factors are the scales' factors: no width loses a real number. -/
theorem arr_d : (dats m 0 c).arrAt 2 cfg0.N = (m (c.tc.loc main_arg2) : S8960x6.Idx → EReal) := by
  refine (dats m 0 c).arrAt_eq_of_covers 2 _ (by decide +kernel) fun t hf z => ?_
  blk_simp
  rw [after0_2]
  frame_out
  unfold k0_pay1
  show m (c.tc.loc main_arg2) _ = m (c.tc.loc main_arg2) _
  blk_ext [idx t]

/-- The widened offsets' factors are the offsets' factors. -/
theorem arr_m : (dats m 0 c).arrAt 3 cfg0.N = (m (c.tc.loc main_arg3) : S8960x6.Idx → EReal) := by
  refine (dats m 0 c).arrAt_eq_of_covers 3 _ (by decide +kernel) fun t hf z => ?_
  blk_simp
  rw [after0_3]
  frame_out
  unfold k0_pay2
  show m (c.tc.loc main_arg3) _ = m (c.tc.loc main_arg3) _
  blk_ext [idx t]

/-- What core `c`'s buffers hold when the region ends. -/
abbrev E : Valuation τ sig (Elt Ideal) :=
  Pipeline.withArrays (cfgs 0).spec c (V0 m c) fun w => (dats m 0 c).arrAt w (cfgs 0).N

/-- The region leaves the input as it was. -/
theorem E_x : E m c (Proc.tc.devRef main_arg0) = m (c.tc.loc main_arg0) :=
  Pipeline.withArrays_of_ne spec0 c (V0 m c) _ main_arg0 (by decide)

/-- The region leaves the codes as they were. -/
theorem E_q : E m c (Proc.tc.devRef main_arg1) = m (c.tc.loc main_arg1) :=
  Pipeline.withArrays_of_ne spec0 c (V0 m c) _ main_arg1 (by decide)

/-- The region leaves the scales as they were. -/
theorem E_s : E m c (Proc.tc.devRef main_arg4) = m (c.tc.loc main_arg4) :=
  Pipeline.withArrays_of_ne spec0 c (V0 m c) _ main_arg4 (by decide)

/-- The region leaves the offsets as they were. -/
theorem E_o : E m c (Proc.tc.devRef main_arg5) = m (c.tc.loc main_arg5) :=
  Pipeline.withArrays_of_ne spec0 c (V0 m c) _ main_arg5 (by decide)

/-- The region leaves the widened scales' factors in its first result. -/
theorem E_d : E m c (Proc.tc.devRef main_v0_0) = (m (c.tc.loc main_arg2) : S8960x6.Idx → EReal) :=
  (Pipeline.withArrays_arr spec0 (by decide) c (V0 m c) (fun w => (dats m 0 c).arrAt w cfg0.N) 2).trans (arr_d m c)

/-- The region leaves the widened offsets' factors in its second result. -/
theorem E_m : E m c (Proc.tc.devRef main_v0_1) = (m (c.tc.loc main_arg3) : S8960x6.Idx → EReal) :=
  (Pipeline.withArrays_arr spec0 (by decide) c (V0 m c) (fun w => (dats m 0 c).arrAt w cfg0.N) 3).trans (arr_m m c)

/-- The layer of the arguments that core `c` was given, at row `b` and output feature `n`. -/
def y (b : Fin 2048) (n : Fin 8960) : EReal :=
  Cert.Q4.out (m (c.tc.loc main_arg0)) (m (c.tc.loc main_arg1)) (m (c.tc.loc main_arg2)) (m (c.tc.loc main_arg3))
    (m (c.tc.loc main_arg4)) (m (c.tc.loc main_arg5)) b n

/-- The reference's result, at row `b` and output feature `n`: the low codes' sum and the high codes' sum are the layer. -/
theorem tail_apply (b : Fin 2048) (n : Fin 8960) :
    (Pipeline.afterTail₀ cfgs (dats m) 0 (V0 m) [hostOps1] c main_v51 : S2048x1x8960.Idx → EReal) (ix3 b 0 n)
      = y m c b n := by
  unfold Pipeline.afterTail₀
  after_reads_at
  simp only [E_x m c, E_q m c, E_s m c, E_o m c, E_d m c, E_m m c]
  unfold y Cert.Q4.out
  rw [Cert.Q4.sum_halves]
  refine congrArg₂ (· + ·) (Finset.sum_congr rfl fun g _ => Finset.sum_congr rfl fun j _ => ?_)
    (Finset.sum_congr rfl fun g _ => Finset.sum_congr rfl fun j _ => ?_)
  · exact term_lo (fun k => m (c.tc.loc main_arg0) (ix3 b 0 k)) (fun a => m (c.tc.loc main_arg1) (ix2 n a))
      (fun a => m (c.tc.loc main_arg2) (ix2 n a)) (fun a => m (c.tc.loc main_arg3) (ix2 n a))
      (fun a => m (c.tc.loc main_arg4) (ix2 n a)) (fun a => m (c.tc.loc main_arg5) (ix2 n a)) g j
  · exact term_hi (fun k => m (c.tc.loc main_arg0) (ix3 b 0 k)) (fun a => m (c.tc.loc main_arg1) (ix2 n a))
      (fun a => m (c.tc.loc main_arg2) (ix2 n a)) (fun a => m (c.tc.loc main_arg3) (ix2 n a))
      (fun a => m (c.tc.loc main_arg4) (ix2 n a)) (fun a => m (c.tc.loc main_arg5) (ix2 n a)) g j

/-- The reference's result: the layer of the arguments under a unit axis. -/
def out : S2048x1x8960.Idx → EReal := fun i => y m c (i 0) (i 2)

/-- Every run of the reference ends with the layer in the result array, and with the arguments as they were. -/
theorem run (ρ : Dev nD → PrngReg) : θ_run defs (onTc (τ := τ) (main (F := Ideal))) ⟨m, fun _ => 0, ρ⟩ (fun r =>
    ∀ c : Dev nD, r.2.mem (c.tc.loc main_v51) = out m c
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) ∧ r.2.mem (c.tc.loc main_arg5) = m (c.tc.loc main_arg5)) := by
  refine (θ_run defs _ _).mono (fun r h c => ⟨?_, h.2 c⟩) (θ_run_and (run_main m ρ) (unchanged m ρ))
  have e : r.2.mem (c.tc.loc main_v51) = Pipeline.afterTail₀ cfgs (dats m) 0 (V0 m) [hostOps1] c main_v51 :=
    (h.1 c).2 main_v51 (Pipeline.mem_restRefs_of main_v51 (by decide) (by decide))
  rw [e]
  funext i
  obtain ⟨b, u, n, rfl⟩ : ∃ (b : Fin 2048) (u : Fin 1) (n : Fin 8960), i = ix3 b u n := ⟨_, _, _, eq_ix3 i⟩
  obtain rfl : u = 0 := Subsingleton.elim _ _
  exact tail_apply m c b n

end Cert.ReferenceIdeal.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Array
public import proofs.«01_k».proof.Proof.Reference
public import Idealize.ShloMosaic.Adequacy
public import Idealize.ShloMosaic.Init

@[expose] public section

noncomputable section

namespace Cert.Proof

open Idealize.ShloMosaic Idealize.SL.Sem Cert.Kernel

/-- From memories that agree on the arguments the kernel and the reference both run, leave the arguments as they were and
end with equal results: each ends with `Cert.Q4.out` of its own arguments. -/
theorem algebraic : Cert.algebraic_KernelIdeal_ReferenceIdeal := by
  intro m g m' g' _ hagree
  refine ⟨fun c => Cert.KernelIdeal.Array.out m c, Cert.KernelIdeal.Array.run m g, ?_⟩
  refine (θ_run Cert.ReferenceIdeal.defs _ _).mono (fun r h c => ⟨(h c).1.trans ?_, (h c).2⟩)
    (Cert.ReferenceIdeal.Value.run m' g')
  obtain ⟨h0, h1, h2, h3, h4, h5⟩ := hagree c
  unfold Cert.ReferenceIdeal.Value.out Cert.ReferenceIdeal.Value.y
  rw [h0, h1, h2, h3, h4, h5]
  rfl

/-- The five claims: the frames of the three programs, the kernel's idealization, and the value. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
